-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![256, 256]⟩ ⟨2, ![512, 256]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S512x256 : Shape := ⟨2, ![512, 256]⟩
abbrev S_ : Shape := ⟨0, ![]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .bf16⟩
  | .hbm, ⟨1, _⟩ => ⟨S512x256, .bf16⟩
  | .local _ .vmem, ⟨0, _⟩ => ⟨S256x256, .bf16⟩
  | .local _ .vmem, ⟨1, _⟩ => ⟨S512x256, .bf16⟩
  | .local _ .vmem, ⟨2, _⟩ => ⟨S256x256, .bf16⟩
  | _, _ => ⟨S256x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_7 : BitVec 32 := 16#32
  let v16 : BitVec 32 := Scalar.muli v9 c16_i32_7
  let v17 : BitVec 32 := Scalar.addi c0_i32 v16
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v18 : BitVec 32 := Scalar.muli v5 c4_i32_8
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v20 : BitVec 32 := Scalar.muli v8 c1_i32_9
  let v21 : BitVec 32 := Scalar.addi v19 v20
  v21.toNat
def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32 : BitVec 32 := 256#32
  let v22 : BitVec 32 := Scalar.muli v2 c256_i32
  let c0_i32_15 : BitVec 32 := 0#32
  ![v22.toNat, 0]
def k0_dev2 (d0 : Dev nD) : Nat :=
  let c0_i32_12 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_11 : BitVec 32 := 16#32
  let v23 : BitVec 32 := Scalar.muli v9 c16_i32_11
  let v24 : BitVec 32 := Scalar.addi c0_i32_12 v23
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v25 : BitVec 32 := Scalar.muli v5 c4_i32_13
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v27 : BitVec 32 := Scalar.muli v8 c1_i32_14
  let v28 : BitVec 32 := Scalar.addi v26 v27
  v28.toNat
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c256_i32_18 : BitVec 32 := 256#32
  let v31 : BitVec 32 := Scalar.muli v2 c256_i32_18
  let v32 : Index := Scalar.indexCast v31
  let c0_19 : Index := 0#32
  ![v32.toNat, 0]
def k0_off3 (d0 : Dev nD) : Fin 2 → Nat :=
  let c1_i32_20 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v34 : BitVec 32 := Scalar.subi c1_i32_20 v2
  let c256_i32_21 : BitVec 32 := 256#32
  let v35 : BitVec 32 := Scalar.muli v34 c256_i32_21
  let c0_i32_26 : BitVec 32 := 0#32
  ![v35.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x256 : Shape := ⟨2, ![512, 256]⟩

abbrev nBuf : Space → Nat
  | .hbm => 1
  | .vmem => 0
  | .smem => 0
  | _ => 0

abbrev bufTy : (tb : Table) → Fin (tcTables nBuf tb) → BufTy
  | .hbm, ⟨0, _⟩ => ⟨S512x256, .bf16⟩
  | _, _ => ⟨S512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.KernelIdeal.Rows.lean ====
/-
# The gathered array, and the two halves of its rows

Devices come in pairs along the mesh axis `x`: device `c` and `peer c`. Each of the two ends with a 512 × 256 array
whose lower 256 rows are the block of the member at `x = 0` and whose upper 256 rows are the block of the member at
`x = 1`. This module names the peer, the half of the rows that belongs to a device (`rows`), and the array a device
ends with (`gath`), and proves that a block placed in its device's half is that part of the array.
-/
module

public import proofs.«01_k».proof.Proof.Gen.KernelIdeal

@[expose] public section

noncomputable section

namespace Cert.KernelIdeal.Pair

open Cert.KernelIdeal.Gen
open Idealize.ShloMosaic

/-! ## The other member of the pair -/

set_option backward.proofsInPublic true in
/-- The device at the other `x` coordinate and the same `y` and `z`. -/
def peer (c : Dev nD) : Dev nD := ⟨(c.val + 16) % 32, Nat.mod_lt _ (by decide)⟩

theorem peer_val (c : Dev nD) : (peer c).val = (c.val + 16) % 32 := rfl

theorem peer_peer (c : Dev nD) : peer (peer c) = c := by
  have : c.val < 32 := c.isLt
  apply Fin.ext
  rw [peer_val, peer_val]
  omega

/-- Pairing as a permutation of the devices, its own inverse. -/
def pairing : Dev nD ≃ Dev nD := ⟨peer, peer, peer_peer, peer_peer⟩

/-- The device the signal is addressed to. -/
theorem signal_dev (c : Dev nD) : (⟨k0_dev1 c, k0_dev1_lt c⟩ : Dev nD) = peer c := by
  have : c.val < 32 := c.isLt
  apply Fin.ext
  rw [peer_val]
  show k0_dev1 c = _
  rw [k0_dev1_eq]
  omega

/-- The device the transfer is addressed to. -/
theorem send_dev (c : Dev nD) : (⟨k0_dev2 c, k0_dev2_lt c⟩ : Dev nD) = peer c := by
  have : c.val < 32 := c.isLt
  apply Fin.ext
  rw [peer_val]
  show k0_dev2 c = _
  rw [k0_dev2_eq]
  omega

/-! ## A device's half of the rows -/

/-- The 256 rows of the result in which device `c`'s block goes. -/
def rows (c : Dev nD) : Finset S512x256.Idx := Finset.univ.filter fun i => (i 0).val / 256 = c.val / 16

theorem mem_rows {c : Dev nD} {i : S512x256.Idx} : i ∈ rows c ↔ (i 0).val / 256 = c.val / 16 := by
  unfold rows
  rw [Finset.mem_filter]
  exact ⟨fun h => h.2, fun h => ⟨Finset.mem_univ _, h⟩⟩

theorem mem_rows_peer {c : Dev nD} {i : S512x256.Idx} : i ∈ rows (peer c) ↔ ¬ i ∈ rows c := by
  rw [mem_rows, mem_rows, peer_val]
  have h0 : (i 0).val < 512 := (i 0).isLt
  have : c.val < 32 := c.isLt
  omega

theorem rows_disjoint (c : Dev nD) : Disjoint (rows c) (rows (peer c)) :=
  Finset.disjoint_left.mpr fun _ h h' => mem_rows_peer.mp h' h

theorem rows_union (c : Dev nD) : rows c ∪ rows (peer c) = Finset.univ :=
  Finset.eq_univ_iff_forall.mpr fun i => by
    rw [Finset.mem_union, mem_rows_peer]
    exact Classical.em _

/-- The rectangle of the 256 rows, as the kernel names it for its transfer. -/
abbrev own (c : Dev nD) : Rect S512x256 := Rect.unit (s := S512x256) (k0_off1 c) S256x256.size (k0_off1_inb c)

/-- The offsets of the kernel's own store are those of its transfer. -/
theorem store_off (c : Dev nD) : k0_off2 c = k0_off1 c := by rw [k0_off1_eq, k0_off2_eq]

theorem own_set (c : Dev nD) : (own c).set = rows c := by
  ext i
  have h0 : (i 0).val < 512 := (i 0).isLt
  have h1 : (i 1).val < 256 := (i 1).isLt
  have hc : c.val < 32 := c.isLt
  rw [Rect.mem_set_unit, mem_rows, k0_off1_eq, Fin.forall_fin_two]
  show (256 * (c.val / 16) ≤ (i 0).val ∧ (i 0).val < 256 * (c.val / 16) + 256) ∧ (0 ≤ (i 1).val ∧ (i 1).val < 0 + 256) ↔ _
  omega

theorem own_emb_row (c : Dev nD) (j : S256x256.Idx) : ((own c).emb j 0).val = 256 * (c.val / 16) + (j 0).val := by
  rw [Rect.emb_apply]
  show k0_off1 c 0 + 1 * (j 0).val = _
  rw [k0_off1_eq, Nat.one_mul]
  rfl

theorem own_emb_col (c : Dev nD) (j : S256x256.Idx) : ((own c).emb j 1).val = (j 1).val := by
  rw [Rect.emb_apply]
  show k0_off1 c 1 + 1 * (j 1).val = _
  rw [k0_off1_eq, Nat.one_mul]
  exact Nat.zero_add _

/-! ## The gathered array -/

/-- Where an element of the result sits within its block. -/
def inner (i : S512x256.Idx) : S256x256.Idx
  | ⟨0, _⟩ => ⟨(i 0).val % 256, Nat.mod_lt _ (by decide)⟩
  | ⟨1, _⟩ => ⟨(i 1).val, (i 1).isLt⟩

/-- Which member of `c`'s pair an element of the result comes from. -/
def origin (c : Dev nD) (i : S512x256.Idx) : Dev nD := if (i 0).val / 256 = c.val / 16 then c else peer c

variable {α : Type}

/-- The array device `c` ends with: the two blocks of its pair, each in its own rows. -/
def gath (x : Dev nD → S256x256.Idx → α) (c : Dev nD) : S512x256.Idx → α := fun i => x (origin c i) (inner i)

theorem inner_own (c : Dev nD) (j : S256x256.Idx) : inner ((own c).emb j) = j := by
  have h0 : (j 0).val < 256 := (j 0).isLt
  funext a
  match a with
  | ⟨0, _⟩ =>
    apply Fin.ext
    show ((own c).emb j 0).val % 256 = (j 0).val
    rw [own_emb_row]
    omega
  | ⟨1, _⟩ =>
    apply Fin.ext
    exact own_emb_col c j

theorem row_own (c : Dev nD) (j : S256x256.Idx) : ((own c).emb j 0).val / 256 = c.val / 16 := by
  have h0 : (j 0).val < 256 := (j 0).isLt
  rw [own_emb_row]
  omega

/-- In a device's own rows the array is its own block, -/
theorem gath_own (x : Dev nD → S256x256.Idx → α) (c : Dev nD) (j : S256x256.Idx) : gath x c ((own c).emb j) = x c j := by
  unfold gath origin
  rw [if_pos (row_own c j), inner_own]

/-- and in its peer's rows its peer's block. -/
theorem gath_peer (x : Dev nD → S256x256.Idx → α) (c : Dev nD) (j : S256x256.Idx) :
    gath x c ((own (peer c)).emb j) = x (peer c) j := by
  unfold gath origin
  rw [if_neg, inner_own]
  rw [row_own, peer_val]
  have : c.val < 32 := c.isLt
  omega

/-- If the devices' blocks are the two halves of one array `X`, the gathered array is `X`. -/
theorem gath_blocks (x : Dev nD → S256x256.Idx → α) (X : S512x256.Idx → α)
    (h : ∀ d j, x d j = X ((own d).emb j)) (c : Dev nD) : gath x c = X := by
  funext i
  have hm : ∃ d, i ∈ rows d ∧ (d = c ∨ d = peer c) := by
    by_cases hi : i ∈ rows c
    · exact ⟨c, hi, .inl rfl⟩
    · exact ⟨peer c, mem_rows_peer.mpr hi, .inr rfl⟩
  obtain ⟨d, hd, hdc⟩ := hm
  rw [← own_set, ← Rect.map_emb_univ] at hd
  obtain ⟨j, -, rfl⟩ := Finset.mem_map.mp hd
  rcases hdc with rfl | rfl
  · rw [gath_own, h]
  · rw [gath_peer, h]

end Cert.KernelIdeal.Pair

end
-- ==== Proof.KernelIdeal.Protocol.lean ====
/-
# The exchange between the two members of a pair, as a protocol

Each device has three semaphores in the exchange, each used for one round:

* its barrier semaphore, raised once by its peer. The peer's signal hands over the rows of the peer's result buffer in
  which this device's block will land;
* its send semaphore, raised by its own transfer once the source has been read. It gives back the half share of the
  send buffer which the transfer was lent (the kernel reads that buffer while the transfer is under way, so it keeps
  the other half share);
* its receive semaphore, raised by its peer's transfer. It gives back the peer's rows of this device's result buffer,
  now holding the peer's block.

A device waits on its barrier while it still owes the peer a transfer; the receive semaphores are placed above the
barriers, so no cycle of waits can arise.
-/
module

public import proofs.«01_k».proof.Proof.KernelIdeal.Rows
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Pair

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's own, and the exchange's (one duty a round, so named by `Unit`) -/

abbrev UX : Type := URounds (GSem nD τ sig) Unit
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The state at launch: any memory, counters at zero, any generator registers. -/
def s₀ : MemSt nD τ sig (Elt F) := ⟨m, fun _ => 0, ρ⟩

/-! ## Buffers and semaphores -/

abbrev xM : Memref sig .tc .vmem S256x256 .bf16 := Memref.whole cc0_stg0_0
abbrev oM : Memref sig .tc .vmem S512x256 .bf16 := Memref.whole cc0_stg1_0
abbrev bM : Memref sig .tc .vmem S256x256 .bf16 := Memref.whole cc0_scratch0

/-- The rows of the result buffer that are device `d`'s, as a memref. -/
abbrev wM (d : Dev nD) : Memref sig .tc .vmem S256x256 .bf16 := oM.slice (own d) (fun _ => rfl)

/-- The three semaphores of the exchange. -/
inductive Role where
  | bar | send | recv
  deriving DecidableEq

instance : Fintype Role := ⟨{.bar, .send, .recv}, fun k => by cases k <;> decide⟩

/-- The semaphore of each role: the barrier semaphore, and the two transfer semaphores. -/
abbrev semOf : Role → SemLoc sig
  | .bar => .reg (SemArray.scalar (sig.barrier 0 rfl) : Sems sig S_).sem
  | .send => .dma (cc0_scratch1 : DmaSems sig S_).sem
  | .recv => .dma (cc0_scratch2 : DmaSems sig S_).sem

theorem semOf_inj {a b : Role} (h : semOf a = semOf b) : a = b := by
  cases a <;> cases b <;> first | rfl | exact absurd h (by decide)

theorem semOf_ne {a b : Role} (h : a ≠ b) : semOf a ≠ semOf b := fun e => h (semOf_inj e)

/-- A device's semaphore of a role. -/
abbrev cell (c : Dev nD) (k : Role) : GSem nD τ sig := ((c : Thread nD τ), semOf k)

theorem cell_inj {c d : Dev nD} {a b : Role} (h : cell c a = cell d b) : c = d ∧ a = b :=
  ⟨congrArg (fun g : GSem nD τ sig => g.1.1) h, semOf_inj (congrArg Prod.snd h)⟩

/-- What one block's transfer adds to each semaphore it names. -/
abbrev N : ℕ := (bM : Memref sig .tc .vmem S256x256 .bf16).view.dmaCredit
theorem N_pos : 0 < N := View.dmaCredit_pos _ (by decide)

/-! ## Contents -/

/-- Device `c`'s block: what its input buffer holds once fetched. -/
def blockOf (c : Dev nD) : S256x256.Idx → Elt F .bf16 :=
  (win0_0.blk (0 : Fin 1)).view.read (Elt F) ((s₀ m ρ).mem ((c : Thread nD τ).loc main_arg0))

/-- What device `c`'s result buffer holds at the end. -/
abbrev whole (c : Dev nD) : S512x256.Idx → Elt F .bf16 := gath (blockOf m ρ) c

/-- Device `c`'s result buffer, on the rows of device `d`. -/
def outPts (c d : Dev nD) (f : S512x256.Idx → Elt F .bf16) : sProp 𝕄 :=
  ((c : Thread nD τ).loc cc0_stg1_0) ↦[rows d]{fullShare} f

/-- Device `c`'s send buffer at a share `q`, holding its block. -/
def bufPts (q : PosShare TreeShare) (c : Dev nD) : sProp 𝕄 :=
  ((c : Thread nD τ).loc cc0_scratch0) ↦{q} (blockOf m ρ c)

omit [FloatOps F] in
instance outPts_storable (c d : Dev nD) (f) : BI.Storable (upEmb : UEmb _ 𝕄) (outPts (F := F) c d f) := by
  unfold outPts; infer_instance
omit [FloatOps F] in
instance bufPts_storable (q) (c : Dev nD) : BI.Storable (upEmb : UEmb _ 𝕄) (bufPts (F := F) m ρ q c) := by
  unfold bufPts; infer_instance

omit [FloatOps F] in
theorem wM_set (d : Dev nD) : (wM d).view.set = rows d :=
  (View.set_slice_whole cc0_stg1_0 (own d)).trans (own_set d)

omit [FloatOps F] in
/-- The rows as the transfer's destination names them. -/
theorem outPts_view (c d : Dev nD) (f : S512x256.Idx → Elt F .bf16) :
    outPts c d f = ((wM d).view.loc (c : Thread nD τ) ↦[(wM d).view.set]{fullShare} f : sProp 𝕄) := by
  rw [wM_set]
  rfl

omit [FloatOps F] in
/-- The send buffer as the transfer's source names it. -/
theorem bufPts_view (q : PosShare TreeShare) (c : Dev nD) :
    bufPts m ρ q c = (bM.view.loc (c : Thread nD τ) ↦[bM.view.set]{q} blockOf m ρ c : sProp 𝕄) := by
  rw [show (bM : Memref sig .tc .vmem S256x256 .bf16).view.set = Finset.univ from View.set_whole cc0_scratch0]
  rfl

omit [FloatOps F] in
/-- Only the contents on the rows matter. -/
theorem outPts_congr {c d : Dev nD} {f g : S512x256.Idx → Elt F .bf16} (h : ∀ j, f ((own d).emb j) = g ((own d).emb j)) :
    (outPts c d f : sProp 𝕄) = outPts c d g := by
  unfold outPts
  refine pointsTo_congr fun i hi => ?_
  rw [← own_set, ← Rect.map_emb_univ] at hi
  obtain ⟨j, -, rfl⟩ := Finset.mem_map.mp hi
  exact h j

omit [FloatOps F] in
/-- The whole result buffer is the two members' rows of it. -/
theorem out_halves (c : Dev nD) (f : S512x256.Idx → Elt F .bf16) :
    ((((c : Thread nD τ).loc cc0_stg1_0) ↦{fullShare} f : sProp 𝕄)) ⊣⊢ iprop(outPts c c f ∗ outPts c (peer c) f) := by
  unfold outPts
  rw [← rows_union c]
  exact pointsTo_union (rows_disjoint c)

omit [FloatOps F] in
/-- The whole share of the send buffer is its two half shares. -/
theorem buf_halves (c : Dev nD) :
    (bufPts m ρ fullShare c : sProp 𝕄) ⊣⊢ iprop(bufPts m ρ fullShare.left c ∗ bufPts m ρ fullShare.right c) := by
  unfold bufPts
  exact pointsTo_share (PosShare.mem_left_op_right fullShare)

/-! ## The schedule -/

/-- What the raising of device `c`'s semaphore of a role hands to `c`. -/
def gift (c : Dev nD) : Role → sProp 𝕄
  | .bar => iprop((∃ f, outPts (peer c) c f) ∗ reached EX (cell (peer c) .recv) 0)
  | .send => bufPts m ρ fullShare.right c
  | .recv => outPts c (peer c) (whole m ρ c)

omit [FloatOps F] in
instance gift_storable (c : Dev nD) (k : Role) : BI.Storable (upEmb : UEmb _ 𝕄) (gift (F := F) m ρ c k) := by
  cases k <;> unfold gift <;> infer_instance

/-- By how much a semaphore is raised. -/
abbrev units : Role → ℕ
  | .bar => 1
  | .send => N
  | .recv => N

theorem units_pos (k : Role) : 0 < units k := by
  cases k
  · exact Nat.one_pos
  · exact N_pos
  · exact N_pos

/-- The role of a semaphore (those outside the exchange are given an arbitrary one: the schedule is used at cells only). -/
def roleOf (s : SemLoc sig) : Role := if s = semOf .bar then .bar else if s = semOf .send then .send else .recv

theorem roleOf_semOf (k : Role) : roleOf (semOf k) = k := by
  cases k <;> decide

/-- One round, round 0, of one duty. -/
def sched : Rounds.Schedule (GSem nD τ sig) Unit 𝕄 where
  duties _ r := if r = 0 then {()} else ∅
  unitless _ := False
  amount g _ _ := units (roleOf g.2)
  payload g _ _ := gift m ρ g.1.1 (roleOf g.2)
  amount_pos g _ _ _ := units_pos _

omit [FloatOps F] in
instance sched_storable (g : GSem nD τ sig) (r : ℕ) (d : Unit) :
    BI.Storable (upEmb : UEmb _ 𝕄) ((sched (F := F) m ρ).payload g r d) := by
  unfold sched
  exact gift_storable m ρ _ _

section Sched
variable (c : Dev nD) (k : Role)

omit [FloatOps F] in
theorem sched_duties (g : GSem nD τ sig) : (sched (F := F) m ρ).duties g 0 = {()} := rfl

omit [FloatOps F] in
theorem sched_done (g : GSem nD τ sig) : ∀ r, 1 ≤ r → (sched (F := F) m ρ).duties g r = ∅ :=
  fun r hr => if_neg (by omega)

omit [FloatOps F] in
theorem sched_duty (g : GSem nD τ sig) : () ∈ (sched (F := F) m ρ).duties g 0 := Finset.mem_singleton_self _

omit [FloatOps F] in
theorem sched_amount : (sched (F := F) m ρ).amount (cell c k) 0 () = units k := by
  show units (roleOf (semOf k)) = units k
  rw [roleOf_semOf]

omit [FloatOps F] in
theorem sched_payload : (sched (F := F) m ρ).payload (cell c k) 0 () = gift m ρ c k := by
  show gift m ρ c (roleOf (semOf k)) = gift m ρ c k
  rw [roleOf_semOf]

omit [FloatOps F] in
theorem sched_expect : (sched (F := F) m ρ).expect (cell c k) 0 = units k := by
  unfold Schedule.expect Schedule.amountOf
  rw [sched_duties, Finset.sum_singleton, sched_amount]

omit [FloatOps F] in
/-- All of a cell's round, no duty taken, is its one gift. -/
theorem sched_rest :
    bigSep ((sched (F := F) m ρ).duties (cell c k) 0 \ ∅) (fun d => (sched (F := F) m ρ).payload (cell c k) 0 d) = gift m ρ c k := by
  rw [Finset.sdiff_empty, sched_duties, bigSep_singleton, sched_payload]

end Sched

/-! ## What a device owes, and the levels -/

/-- After its signal a device owes its peer the transfer; -/
def owed₁ (c : Dev nD) : CellTallies nD τ sig Unit := tallyAt (cell (peer c) .recv) () N
/-- at launch, the signal too. -/
def owed₀ (c : Dev nD) : CellTallies nD τ sig Unit := owed₁ c + tallyAt (cell (peer c) .bar) () 1

def L (g : GSem nD τ sig) : Finset Unit := if g.1.2 = .tc then {()} else ∅

/-- Barriers at 1, receive semaphores at 2, all others at 0. -/
def lv (g : GSem nD τ sig) (_ : Unit) : ℕ := if g.2 = semOf .bar then 1 else if g.2 = semOf .recv then 2 else 0

theorem L_off (g : GSem nD τ sig) (h : g.1.2 ≠ .tc) : L g = ∅ := if_neg h
theorem L_mem (c : Dev nD) (s : SemLoc sig) (u : Unit) : u ∈ L ((c : Thread nD τ), s) := by
  unfold L
  rw [if_pos rfl]
  exact Finset.mem_singleton_self _

theorem lv_bar (c : Dev nD) (u : Unit) : lv (cell c .bar) u = 1 := if_pos rfl
theorem lv_recv (c : Dev nD) (u : Unit) : lv (cell c .recv) u = 2 :=
  (if_neg (semOf_ne (a := .recv) (b := .bar) (by decide))).trans (if_pos rfl)

theorem of_owed₁ {c : Dev nD} {g : GSem nD τ sig} {u : Unit} (h : 0 < owed₁ c g u) : g = cell (peer c) .recv := by
  unfold owed₁ at h
  rw [tallyAt_apply] at h
  by_contra hn
  rw [if_neg fun h' => hn h'.1] at h
  exact Nat.lt_irrefl 0 h

theorem of_owed₀ {c : Dev nD} {g : GSem nD τ sig} {u : Unit} (h : 0 < owed₀ c g u) :
    g = cell (peer c) .recv ∨ g = cell (peer c) .bar := by
  unfold owed₀ at h
  rw [Pi.add_apply, Finsupp.add_apply, tallyAt_apply] at h
  by_cases hb : g = cell (peer c) .bar
  · exact .inr hb
  · rw [if_neg fun h' => hb h'.1, Nat.add_zero] at h
    exact .inl (of_owed₁ h)

omit [FloatOps F] in
/-- A device may wait on its barrier while it owes the transfer. -/
theorem wait_bar (c : Dev nD) : (levAts L lv : sProp 𝕄) ⊢ MayWait (c : Thread nD τ) (semOf .bar) () (owed₁ c) :=
  MayOwe.of_cut (L := L) (lev := lv) 1
    (fun p hp => by rw [Finset.mem_singleton.mp hp]; exact L_mem c _ _)
    (fun g u hg => by rw [of_owed₁ hg]; exact L_mem _ _ _)
    (fun p hp => by rw [Finset.mem_singleton.mp hp]; exact (lv_bar c ()).le)
    (fun g u hg => by rw [of_owed₁ hg, lv_recv]; decide)

omit [FloatOps F] in
/-- A device may wait on a staging semaphore whatever it owes of the exchange. -/
theorem wait_stage (c : Dev nD) (q : DmaSem sig) (hq : SemLoc.dma q ≠ semOf .recv) (O : CellTallies nD τ sig Unit)
    (hO : O = owed₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp]; exact L_mem c _ _)
      (fun g u hg => by rcases of_owed₀ hg with rfl | rfl <;> exact L_mem _ _ _)
      (fun p hp => by
        rw [Finset.mem_singleton.mp hp]
        exact le_of_eq ((if_neg (fun h => by cases h)).trans (if_neg hq)))
      (fun g u hg => by
        rcases of_owed₀ hg with rfl | rfl
        · rw [lv_recv]; decide
        · rw [lv_bar]; decide)
  · rw [MayWait_zero]
    iintro -
    iempintro

/-! ## What a device's body starts from and leaves -/

/-- The invariants the body of device `c` opens, at the names `K` they were allocated under: those of its own three
    semaphores, and those of its peer's barrier and receive semaphores. -/
def invs (K : Dev nD × Role → ℕ) (c : Dev nD) : sProp 𝕄 :=
  iprop(cellInv EX (sched m ρ) (K (c, .bar)) (cell c .bar) ∗ cellInv EX (sched m ρ) (K (c, .send)) (cell c .send)
    ∗ cellInv EX (sched m ρ) (K (c, .recv)) (cell c .recv) ∗ cellInv EX (sched m ρ) (K (peer c, .bar)) (cell (peer c) .bar)
    ∗ cellInv EX (sched m ρ) (K (peer c, .recv)) (cell (peer c) .recv))

omit [FloatOps F] in
instance invs_persistent (K : Dev nD × Role → ℕ) (c : Dev nD) : BI.Persistent (invs (F := F) m ρ K c) := by
  unfold invs; infer_instance

/-- That round 0 of these semaphores has been reached. -/
def marks (c : Dev nD) : sProp 𝕄 :=
  iprop(reached EX (cell c .send) 0 ∗ reached EX (cell c .recv) 0 ∗ reached EX (cell (peer c) .bar) 0
    ∗ reached EX (cell (peer c) .recv) 0)

omit [FloatOps F] in
instance marks_persistent (c : Dev nD) : BI.Persistent (marks (F := F) c) := by unfold marks; infer_instance

/-- The device's positions on its own semaphores, -/
def places (c : Dev nD) : sProp 𝕄 :=
  iprop(atPos EX (cell c .bar) 0 ∅ 0 ∗ atPos EX (cell c .send) 0 ∅ 0 ∗ atPos EX (cell c .recv) 0 ∅ 0)

/-- and the tokens of the duties it discharges: its peer's barrier, its own send, its peer's receive. -/
def dues (c : Dev nD) : sProp 𝕄 :=
  iprop(dutyTok EX (cell (peer c) .bar) 0 () ∗ dutyTok EX (cell c .send) 0 () ∗ dutyTok EX (cell (peer c) .recv) 0 ())

def ghost (K : Dev nD × Role → ℕ) (c : Dev nD) : sProp 𝕄 := iprop(invs m ρ K c ∗ marks c ∗ places c ∗ dues c)

/-- With the credit to wait on its barrier and on its receive semaphore, and the levels. -/
def start (c : Dev nD) : sProp 𝕄 :=
  iprop((∃ K, ghost m ρ K c) ∗ cred (tallyAt (cell c .bar) () 1) ∗ cred (tallyAt (cell c .recv) () N) ∗ levAts L lv)

/-- Before the body: that, and the send buffer at any contents. -/
def Φ₀ (c : Dev nD) : sProp 𝕄 := iprop(start m ρ c ∗ ∃ f, (((c : Thread nD τ).loc cc0_scratch0) ↦{fullShare} f))

/-- After the body: the send buffer again, and the three semaphores, their counters at zero. -/
def Φ₁ (c : Dev nD) : sProp 𝕄 :=
  iprop(bufPts m ρ fullShare c ∗ semVal (cell c .bar) 0 ∗ semVal (cell c .send) 0 ∗ semVal (cell c .recv) 0)

/-- The launch's data: the arrays as they were, the input buffer at the device's block, the result buffer at the
    gathered array. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => blockOf m ρ c
    | ⟨1, _⟩ => whole m ρ c
  Φ t := match t with
    | ⟨0, _⟩ => Φ₀ m ρ c
    | ⟨_ + 1, _⟩ => Φ₁ m ρ c
  q _ := fullShare
  owed t := match t with
    | ⟨0, _⟩ => owed₀ c
    | ⟨_ + 1, _⟩ => 0

end Cert.KernelIdeal.Pair

end
-- ==== Proof.KernelIdeal.Body.lean ====
/-
# The body on one device

The kernel's body, run operation by operation from what `Protocol` gives a device to what it expects back: the block is
copied into the send buffer, the peer's rows of the result buffer are handed to the peer with the barrier signal, the
peer's buffer is received with the barrier wait, the transfer is started on half a share of the send buffer, the own
rows are filled from the other half while it runs, and the two waits bring the peer's rows and the lent half back.
-/
module

public import proofs.«01_k».proof.Proof.KernelIdeal.Protocol
public import Idealize.ShloMosaic.Lib.Pipeline.Value

@[expose] public section

noncomputable section

namespace Cert.KernelIdeal.Pair

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the body's accesses read and write -/

/-- The rectangle of a whole block. -/
abbrev full : Rect S256x256 := Rect.unit (s := S256x256) ![0, 0] S256x256.size inb_S256x256_S256x256_0_0

theorem zero_off : (![0, 0] : Fin 2 → Nat) = fun _ => 0 := by
  funext a
  fin_cases a <;> rfl

omit [FloatOps F] in
theorem load_block (f : S256x256.Idx → Elt F .bf16) : xM.view.readAt (Elt F) full.toLoadRect f = f :=
  Memref.readAt_unit_zero (Elt F) cc0_stg0_0 zero_off _ f

omit [FloatOps F] in
theorem load_buf (f : S256x256.Idx → Elt F .bf16) : bM.view.readAt (Elt F) full.toLoadRect f = f :=
  Memref.readAt_unit_zero (Elt F) cc0_scratch0 zero_off _ f

omit [FloatOps F] in
theorem store_buf (f w : S256x256.Idx → Elt F .bf16) :
    (bM.access full : View sig .tc _ _ _).write (Elt F) f w Finset.univ = w :=
  Memref.write_access_unit_zero_univ (Elt F) cc0_scratch0 zero_off _ f w

/-- What the kernel stores in its send buffer is the block it loaded. -/
theorem stored_block (v : Vec F S256x256 .bf16) : k0_pay1 v = v := by
  unfold k0_pay1
  simp only [shapeCast_self]

section OwnRows
variable (c : Dev nD) {off : Fin 2 → Nat} (h : off = k0_off1 c) (inb : ∀ a, off a + S256x256.size a ≤ S512x256.size a)
include h

/-- A load at the device's row offset touches its own rows only, -/
theorem load_rows : oM.view.setOn (Rect.unit (s := S512x256) off S256x256.size inb).set ⊆ rows c := by
  subst h
  intro i hi
  obtain ⟨x, hx, rfl⟩ := Finset.mem_map.mp hi
  exact own_set c ▸ hx

/-- a store likewise, -/
theorem store_rows : (oM.access (Rect.unit (s := S512x256) off S256x256.size inb)).setOn Finset.univ ⊆ rows c := by
  subst h
  exact (wM_set c).le

omit [FloatOps F] in
/-- and storing the device's block there makes them the gathered array's rows. -/
theorem stored_rows (f : S512x256.Idx → Elt F .bf16) :
    ((oM.access (Rect.unit (s := S512x256) off S256x256.size inb)).loc (c : Thread nD τ) ↦[rows c]{fullShare}
        ((oM.access (Rect.unit (s := S512x256) off S256x256.size inb)).write (Elt F) f (blockOf m ρ c) Finset.univ) : sProp 𝕄)
      = outPts c c (whole m ρ c) := by
  subst h
  show outPts c c _ = _
  refine outPts_congr fun j => ?_
  rw [show whole m ρ c ((own c).emb j) = blockOf m ρ c j from gath_own (blockOf m ρ) c j]
  exact View.write_emb_of_mem (v := (wM c).view) (Val := Elt F) f (blockOf m ρ c) (Finset.mem_univ j)

end OwnRows

omit [FloatOps F] in
/-- The transfer's landing makes the issuer's rows of its peer's buffer the gathered array's there. -/
theorem landed_rows (c : Dev nD) (f : S512x256.Idx → Elt F .bf16) :
    ((wM c).view.loc (peer c : Thread nD τ) ↦[(wM c).view.set]{fullShare}
        ((wM c).view.write (Elt F) f (bM.view.read (Elt F) (blockOf m ρ c)) Finset.univ) : sProp 𝕄)
      = outPts (peer c) c (whole m ρ (peer c)) := by
  rw [← outPts_view (peer c) c]
  refine outPts_congr fun j => ?_
  have e : whole m ρ (peer c) ((own c).emb j) = blockOf m ρ c j := by
    have := gath_peer (blockOf m ρ) (peer c) j
    rwa [peer_peer] at this
  rw [e]
  exact View.write_emb_of_mem (v := (wM c).view) (Val := Elt F) f (blockOf m ρ c) (Finset.mem_univ j)

theorem credit_slice {off : Fin 2 → ℕ} (inb : ∀ a, off a + S256x256.size a ≤ S512x256.size a) :
    (oM.slice (Rect.unit (s := S512x256) off S256x256.size inb) (fun _ => rfl)).view.dmaCredit = N := rfl

theorem credit_rows (c : Dev nD) : (wM c).view.dmaCredit = N := rfl

/-! ## The exchange's steps -/

abbrev 𝒱₀ : Variants := Variants.none

variable (K : Dev nD × Role → ℕ)

/-- The transfer: it takes the lent half of the send buffer and the device's rows of its peer's result buffer, discharges
    what is owed, and yields the credit to wait for its own completion. -/
theorem wp_transfer (c n : Dev nD) (hn : n = peer c)
    {hsc : (wM c : Memref sig (Dev.tc n : Thread nD τ).2.kind .vmem S256x256 .bf16).view.ref.isScScratch = false}
    {hsrc : bM.view.WordExact} {hdst : (wM c).view.WordExact}
    {hsem : DmaTarget.Typed .vmem (.dma (cc0_scratch2 : DmaSems sig S_).sem)
      (.remote (Dev.tc n : Thread nD τ) (wM c) (.dma (cc0_scratch1 : DmaSems sig S_).sem) hsc)}
    {α : Type} {Q : α → sProp 𝕄} {k : PUnit → Prog (TpuEff nD τ sig (Elt F) Λ₀ .tc) α}
    (f : S512x256.Idx → Elt F .bf16) (W : Waits sig Unit) :
    iprop(cellInv EX (sched m ρ) (K (c, .send)) (cell c .send) ∗ cellInv EX (sched m ρ) (K (peer c, .recv)) (cell (peer c) .recv)
        ∗ bufPts m ρ fullShare.right c ∗ outPts (peer c) c f ∗ owes (c : Thread nD τ) (owed₁ c) W
        ∗ dutyTok EX (cell c .send) 0 () ∗ reached EX (cell c .send) 0
        ∗ dutyTok EX (cell (peer c) .recv) 0 () ∗ reached EX (cell (peer c) .recv) 0)
      ⊢ iprop(((cred (tallyAt (cell c .send) () N) ∗ owes (c : Thread nD τ) 0 W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma bM (.remote (Dev.tc n : Thread nD τ) (wM c) (.dma (cc0_scratch1 : DmaSems sig S_).sem) hsc)
                (.dma (cc0_scratch2 : DmaSems sig S_).sem) hsrc hdst hsem) k) Q) := by
  subst hn
  rw [bufPts_view, outPts_view]
  exact Rounds.wp_send_pointsTo 𝒱₀ EX (sched m ρ) (c : Thread nD τ) none (c' := (peer c : Thread nD τ)) (src := bM) (dst := wM c)
    (sS := semOf .send) (sem := semOf .recv) (q := fullShare.right) (fs := blockOf m ρ c) (κ₁ := K (c, .send)) (κ₂ := K (peer c, .recv))
    (r₁ := 0) (r₂ := 0) (d₁ := ()) (d₂ := ()) (fd := f) (sched_duty m ρ _) (sched_duty m ρ _) () () N (credit_rows c)
    (sched_amount m ρ c .send) (sched_amount m ρ (peer c) .recv) 0 (zero_add _).symm (W := W)
    (by rw [sched_payload m ρ c .send]; exact Entails.of_eq (bufPts_view m ρ _ c).symm)
    (by
      rw [sched_payload m ρ (peer c) .recv]
      refine (Entails.of_eq (landed_rows m ρ c f)).trans (Entails.of_eq ?_)
      unfold gift
      rw [peer_peer])

/-- A wait for a transfer, with nothing owed: the semaphore's gift comes back, and, its one round over, the semaphore
    itself, its counter at zero. -/
theorem wp_await (c : Dev nD) (r : Role) (q : DmaSem sig) (hq : semOf r = .dma q) (hr : units r = N) (W : Waits sig Unit)
    {sp sp' : Space} {s s' : Shape} {e e' : EltTy} {src : Memref sig .tc sp s e} {dst : Memref sig .tc sp' s' e'}
    (hN : dst.view.dmaCredit = N) {hsrc : src.view.WordExact} {hdst : dst.view.WordExact}
    {α : Type} {Q : α → sProp 𝕄} {k : PUnit → Prog (TpuEff nD τ sig (Elt F) Λ₀ .tc) α} :
    iprop(cellInv EX (sched m ρ) (K (c, r)) (cell c r) ∗ cred (tallyAt (cell c r) () N) ∗ owes (c : Thread nD τ) 0 W
        ∗ atPos EX (cell c r) 0 ∅ 0)
      ⊢ iprop(((owes (c : Thread nD τ) 0 (insert (semOf r, ()) W) ∗ semVal (cell c r) 0 ∗ gift m ρ c r)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 q src dst hsrc hdst) k) Q) := by
  iintro ⟨#HI, Hc, HO, Hp⟩ Hk
  iapply (Rounds.wp_wait_rest_token 𝒱₀ EX (sched m ρ) (c : Thread nD τ) none (sm := semOf r) (k' := N) (κ := K (c, r))
      (fun Kt => by rw [hq, ← hN]; exact wpE_waitDma2_eq 𝒱₀ (c : Thread nD τ) none Set.univ Kt) (Set.mem_univ _) ()
      (O := 0) (W := W) (R := 0) (m := 0) (T := ∅)
      (by rw [Nat.zero_add, sched_expect m ρ c r, hr])) $$ [Hc HO Hp]
  · isplitr; · iexact HI
    isplitl [Hc]; · iexact Hc
    isplitl [HO]; · iexact HO
    isplitr; · rw [MayWait_zero]; iempintro
    iexact Hp
  iintro ⟨HO, Hp, -, Hg⟩
  ihave Hg := (Entails.of_eq (sched_rest m ρ c r)) $$ Hg
  imod (Rounds.cell_close EX (sched m ρ) (Set.mem_univ (K (c, r))) (fun h => h) (R := 0 + 1) (sched_done m ρ (cell c r))) $$ [Hp] with Hz
  · isplitr; · iexact HI
    iexact Hp
  iapply Hk
  isplitl [HO]; · iexact HO
  isplitl [Hz]; · iexact Hz
  iexact Hg

/-! ## The body -/

/-- What the body starts from, with the names of the invariants fixed. -/
def pre (c : Dev nD) : sProp 𝕄 :=
  iprop((ghost m ρ K c ∗ cred (tallyAt (cell c .bar) () 1) ∗ cred (tallyAt (cell c .recv) () N) ∗ levAts L lv)
    ∗ (∃ f, (((c : Thread nD τ).loc cc0_scratch0) ↦{fullShare} f))
    ∗ (dats m ρ 0 c).owesAt () t0_0.castSucc
    ∗ (((c : Thread nD τ).loc cc0_stg0_0) ↦{fullShare} (blockOf m ρ c))
    ∗ (∃ f, (((c : Thread nD τ).loc cc0_stg1_0) ↦{fullShare} f)))

/-- What it leaves. -/
def post (c : Dev nD) : sProp 𝕄 :=
  iprop(Φ₁ m ρ c ∗ (dats m ρ 0 c).owesAt () t0_0.succ
    ∗ (((c : Thread nD τ).loc cc0_stg0_0) ↦{fullShare} (blockOf m ρ c))
    ∗ (((c : Thread nD τ).loc cc0_stg1_0) ↦{fullShare} (whole m ρ c)))

set_option maxHeartbeats 1000000 in
theorem body_run (c : Dev nD) (Kt : PUnit → sProp 𝕄) :
    iprop(pre m ρ K c ∗ (post m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) Kt := by
  simp only [cc0_body_eq_skeleton]
  unfold cc0_body_skel
  simp only [k0_part1_eq_skeleton]
  unfold k0_part1_skel
  simp only [semSignalWord, semWaitWord, Prog.lift, Prog.bind_op, Prog.bind_ret, Prog.pure_eq_ret, Prog.bind_assoc, wp_deviceId]
  unfold pre ghost invs marks places dues
  iintro ⟨⟨⟨⟨⟨#Ibar, #Isend, #Irecv, #IbarP, #IrecvP⟩, ⟨#Rsend, #Rrecv, #RbarP, #RrecvP⟩, ⟨Pbar, Psend, Precv⟩, Dbar, Dsend, Drecv⟩,
    Cbar, Crecv, #Hlev⟩, ⟨%b0, Hb⟩, Ho, Hx, ⟨%o0, Hout⟩⟩, Hk⟩
  unfold Dat.owesAt Pipeline.owesWithin
  icases Ho with ⟨%W, -, HO⟩
  rw [show (dats m ρ 0 c).owed t0_0.castSucc = owed₀ c from rfl]
  simp only [signal_dev c]
  -- the block into the send buffer
  iapply (wp_load 𝒱₀ (c : Thread nD τ) none Set.univ (m := xM) (Finset.subset_univ _)) $$ Hx; iintro Hx
  rw [load_block, stored_block]
  iapply (wp_load 𝒱₀ (c : Thread nD τ) none Set.univ (m := bM) (Finset.subset_univ _)) $$ Hb; iintro Hb
  iapply (wp_store 𝒱₀ (c : Thread nD τ) none Set.univ (m := bM) (r := full) (Mk := Finset.univ) (Finset.subset_univ _)) $$ Hb; iintro Hb
  rw [store_buf]
  -- the signal hands the peer its rows of this device's result buffer
  ihave Ho2 := (out_halves c o0).1 $$ Hout
  icases Ho2 with ⟨Hown, Hpeer⟩
  unfold owed₀
  iapply (Rounds.wp_signal 𝒱₀ EX (sched m ρ) (c : Thread nD τ) none (dst := (peer c : Thread nD τ)) (κ := K (peer c, .bar))
      (d := ()) (sched_duty m ρ _) ((sched_amount m ρ (peer c) .bar).trans (by decide)) () (owed₁ c) rfl) $$ [HO Dbar Hpeer]
  · isplitr; · iexact IbarP
    isplitl [HO]; · iexact HO
    isplitl [Dbar]; · iexact Dbar
    isplitl [Hpeer]
    · rw [sched_payload m ρ (peer c) .bar]
      unfold gift
      rw [peer_peer]
      isplitl [Hpeer]; · iexists o0; iexact Hpeer
      iexact Rrecv
    · iexact RbarP
  iintro HO
  -- the wait brings this device's rows of the peer's
  iapply (Rounds.wp_wait_rest_token 𝒱₀ EX (sched m ρ) (c : Thread nD τ) none (κ := K (c, .bar))
      (wpE_semWait_eq 𝒱₀ (c : Thread nD τ) none Set.univ) (Set.mem_univ _) () (O := owed₁ c) (W := W) (R := 0) (m := 0) (T := ∅)
      (by rw [sched_expect m ρ c .bar]; decide)) $$ [Cbar HO Pbar]
  · isplitr; · iexact Ibar
    isplitl [Cbar]; · iexact Cbar
    isplitl [HO]; · iexact HO
    isplitr; · iapply (wait_bar c); iexact Hlev
    iexact Pbar
  iintro ⟨HO, Pbar, -, Hg⟩
  ihave Hg := (Entails.of_eq (sched_rest m ρ c .bar)) $$ Hg
  unfold gift
  icases Hg with ⟨⟨%p0, Hland⟩, -⟩
  imod (Rounds.cell_close EX (sched m ρ) (Set.mem_univ (K (c, .bar))) (fun h => h) (R := 0 + 1) (sched_done m ρ (cell c .bar))) $$ [Pbar] with Zbar
  · isplitr; · iexact Ibar
    iexact Pbar
  -- half of the send buffer is lent to the transfer
  ihave Hb2 := (show (((c : Thread nD τ).loc cc0_scratch0) ↦{fullShare} (blockOf m ρ c) : sProp 𝕄) ⊢ _ from (buf_halves m ρ c).1) $$ Hb
  icases Hb2 with ⟨HbL, HbR⟩
  iapply (wp_transfer m ρ K c _ (send_dev c) p0 _) $$ [HbR Hland HO Dsend Drecv]
  · isplitr; · iexact Isend
    isplitr; · iexact IrecvP
    isplitl [HbR]; · iexact HbR
    isplitl [Hland]; · iexact Hland
    isplitl [HO]; · iexact HO
    isplitl [Dsend]; · iexact Dsend
    isplitr; · iexact Rsend
    isplitl [Drecv]; · iexact Drecv
    iexact RrecvP
  iintro ⟨Csend, HO⟩
  -- the own rows, from the half kept
  unfold bufPts outPts
  iapply (wp_load 𝒱₀ (c : Thread nD τ) none Set.univ (m := bM) (Finset.subset_univ _)) $$ HbL; iintro HbL
  rw [load_buf]
  iapply (wp_load 𝒱₀ (c : Thread nD τ) none Set.univ (m := oM) (load_rows c (store_off c) _)) $$ Hown; iintro Hown
  iapply (wp_store 𝒱₀ (c : Thread nD τ) none Set.univ (m := oM) (r := Rect.unit (s := S512x256) (k0_off2 c) S256x256.size (k0_off2_inb c))
    (Mk := Finset.univ) (store_rows c (store_off c) _)) $$ Hown; iintro Hown
  ihave Hown := (Entails.of_eq (stored_rows m ρ c (store_off c) _ o0)) $$ Hown
  -- the two waits
  iapply (wp_await m ρ K c .recv _ rfl rfl _ (credit_slice (k0_off3_inb c))) $$ [Crecv HO Precv]
  · isplitr; · iexact Irecv
    isplitl [Crecv]; · iexact Crecv
    isplitl [HO]; · iexact HO
    iexact Precv
  iintro ⟨HO, Zrecv, Hpeer⟩
  iapply (wp_await m ρ K c .send _ rfl rfl _ (dst := bM) rfl) $$ [Csend HO Psend]
  · isplitr; · iexact Isend
    isplitl [Csend]; · iexact Csend
    isplitl [HO]; · iexact HO
    iexact Psend
  iintro ⟨HO, Zsend, HbR⟩
  rw [wp_ret]; imodintro
  iapply Hk
  unfold post Φ₁ Dat.owesAt Pipeline.owesWithin
  rw [show (dats m ρ 0 c).owed t0_0.succ = 0 from rfl]
  isplitl [HbL HbR Zbar Zsend Zrecv]
  · isplitl [HbL HbR]
    · iapply (buf_halves m ρ c).2
      unfold gift bufPts
      isplitl [HbL] <;> iassumption
    isplitl [Zbar]; · iexact Zbar
    isplitl [Zsend] <;> iassumption
  isplitl [HO]
  · iexists (insert (semOf .send, ()) (insert (semOf .recv, ()) (insert (semOf .bar, ()) W)))
    isplitr; · ipureintro; exact fun _ _ => Or.inl trivial
    iexact HO
  isplitl [Hx]; · iexact Hx
  iapply (out_halves c (whole m ρ c)).2
  unfold gift
  isplitl [Hown] <;> iassumption

/-- The library's obligation for the body. -/
theorem body_ok (c : Dev nD) : BodyObligation (dats (F := F) m ρ 0 c) (defs₀ (F := F)) 𝒱₀ () Set.univ := fun t => by
  obtain rfl := fin_N0 t
  simp only [bigSep_W0]
  have own_eq (b : Ref sig .tc) (X : b.ty.Contents (Elt F)) :
      (owns (c : Thread nD τ) (Memref.whole b) fullShare X : sProp 𝕄) = (((c : Thread nD τ).loc b) ↦{fullShare} X) :=
    owns_whole (c : Thread nD τ) b fullShare X
  have fetched (d) : (dats m ρ 0 c).before (0 : Fin 2) t0_0 d = blockOf m ρ c := by
    unfold Dat.before
    rw [if_pos (fetch0_0 t0_0)]
    rfl
  show iprop(Φ₀ m ρ c ∗ (dats m ρ 0 c).owesAt () t0_0.castSucc
      ∗ (∃ d, owns (c : Thread nD τ) (Memref.whole cc0_stg0_0) fullShare ((dats m ρ 0 c).before (0 : Fin 2) t0_0 d))
      ∗ (∃ d, owns (c : Thread nD τ) (Memref.whole cc0_stg1_0) fullShare ((dats m ρ 0 c).before (1 : Fin 2) t0_0 d)))
    ⊢ wp frame (wpE (defs₀ (F := F)) 𝒱₀ c none) Set.univ
        (cc0_body (Memref.whole cc0_stg0_0) (Memref.isWhole_whole _) (Memref.whole cc0_stg1_0) (Memref.isWhole_whole _)
          (Memref.whole cc0_scratch0) (Memref.isWhole_whole _) cc0_scratch1 cc0_scratch2) (fun _ => iprop(
            Φ₁ m ρ c ∗ (dats m ρ 0 c).owesAt () t0_0.succ
            ∗ owns (c : Thread nD τ) (Memref.whole cc0_stg0_0) fullShare (blockOf m ρ c)
            ∗ owns (c : Thread nD τ) (Memref.whole cc0_stg1_0) fullShare (whole m ρ c)))
  simp only [own_eq, fetched]
  unfold Φ₀ start
  iintro ⟨⟨⟨⟨%K, Hg⟩, Hrest⟩, Hbuf⟩, Ho, ⟨%d, Hx⟩, ⟨%e, Hout⟩⟩
  iapply (body_run m ρ K c)
  unfold pre
  isplitr []
  · isplitl [Hg Hrest]
    · isplitl [Hg] <;> iassumption
    isplitl [Hbuf]; · iexact Hbuf
    isplitl [Ho]; · iexact Ho
    isplitl [Hx]; · iexact Hx
    iexists _
    iexact Hout
  · unfold post
    iintro H
    iexact H

end Cert.KernelIdeal.Pair

end
-- ==== Proof.KernelIdeal.Launch.lean ====
/-
# The launch: from the memory at launch to what every device's body starts from, and the run

The exchange's resources are indexed by device and role. At launch each device holds, for each of its three semaphores,
the state of its rounds, its position, the record that round 0 is reached and the token of that round's duty. Allocating
the invariants turns the states and the counters into shared facts; the duty tokens of the barriers and of the receive
semaphores then change hands within each pair, for it is the peer who discharges those duties.
-/
module

public import proofs.«01_k».proof.Proof.KernelIdeal.Body
public import Idealize.ShloMosaic.Lib.Quiescent
public import Idealize.ShloMosaic.Lib.Pipeline.CollectiveSegs

@[expose] public section

noncomputable section

namespace Cert.KernelIdeal.Pair

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch deals -/

omit [FloatOps F] in
/-- Something of each role. -/
theorem each_role (Φ : Role → sProp 𝕄) : bigSep Finset.univ Φ = iprop(Φ .bar ∗ Φ .send ∗ Φ .recv) :=
  bigSep_univ_eq_bigSepL [Role.bar, Role.send, Role.recv] (by decide) (by decide) Φ

/-- Every device's semaphores. -/
def site : Dev nD × Role ↪ GSem nD τ sig :=
  ⟨fun p => cell p.1 p.2, fun p q h => Prod.ext (cell_inj h).1 (cell_inj h).2⟩

def sites : Finset (GSem nD τ sig) := Finset.univ.map site

/-- One token for each: its round 0's one duty. -/
def tokens : Finset (GSem nD τ sig × ℕ × Unit) :=
  Finset.univ.map (site.trans ⟨fun g => (g, 0, ()), fun _ _ h => congrArg Prod.fst h⟩)

/-- The user's part of the launch element. -/
def u₀ : UU :=
  (initOf (Pipeline.cells cfgs cellOf_inj) (Pipeline.launchToks cfgs cellOf_inj), initOf sites tokens)

/-- What stays a device's own of a semaphore's launch resources. -/
def kept (c : Dev nD) (k : Role) : sProp 𝕄 :=
  iprop(reached EX (cell c k) 0 ∗ atPos EX (cell c k) 0 ∅ 0 ∗ dutyTok EX (cell c k) 0 ())

/-- What each device is dealt. -/
def dealt (c : Dev nD) : sProp 𝕄 :=
  bigSep Finset.univ fun k : Role => iprop(roundState EX (sched m ρ) (cell c k) 0 ∗ kept c k)

omit [FloatOps F] in
theorem deal : BI.own (EX (initOf sites tokens)) ⊢ (|==> bigSep Finset.univ (dealt m ρ) : sProp 𝕄) := by
  have by_site (Φ : GSem nD τ sig → sProp 𝕄) :
      bigSep sites Φ = bigSep Finset.univ fun c : Dev nD => bigSep Finset.univ fun k : Role => Φ (cell c k) := by
    unfold sites
    rw [bigSep_map, bigSep_univ_prod]
    rfl
  have by_token : bigSep tokens (fun t => (dutyTok EX t.1 t.2.1 t.2.2 : sProp 𝕄))
      = bigSep Finset.univ fun c : Dev nD => bigSep Finset.univ fun k : Role => dutyTok EX (cell c k) 0 () := by
    unfold tokens
    rw [bigSep_map, bigSep_univ_prod]
    rfl
  iintro Hu
  imod (Rounds.fund EX (sched m ρ) sites tokens) $$ Hu with ⟨Hst, Hr, Hat, Htok⟩
  imodintro
  ihave Hst := (Entails.of_eq (by_site _)) $$ Hst
  ihave Hr := (Entails.of_eq (by_site _)) $$ Hr
  ihave Hat := (Entails.of_eq (by_site _)) $$ Hat
  ihave Htok := (Entails.of_eq by_token) $$ Htok
  unfold dealt kept
  simp only [bigSep_sep']
  isplitl [Hst]; · iexact Hst
  isplitl [Hr]; · iexact Hr
  isplitl [Hat] <;> iassumption

/-! ## The invariants -/

/-- The kernel's own two semaphores. -/
abbrev osem : Fin 2 → SemLoc sig := fun | 0 => semOf .send | 1 => semOf .recv

theorem ownSemFacts : Pipeline.OwnSemFacts cfg0.spec osem := by decide

omit [FloatOps F] in
theorem own_sems (c : Dev nD) :
    (Pipeline.ownSems0 (Ix := Unit) (Name := ℕ) (U := UU) (Lvl := ℕ) (Val := Elt F) (τ := τ) osem c : sProp 𝕄)
      = iprop(semVal (cell c .send) 0 ∗ semVal (cell c .recv) 0) := by
  rw [Pipeline.ownSems0_eq_of_list c osem [0, 1] (by decide) (by decide)]
  rfl

omit [FloatOps F] in
/-- The barrier semaphore is the one that outlives the kernel. -/
theorem free_sems (c : Dev nD) : (unscopedSems0 c : sProp 𝕄) = semVal (cell c .bar) 0 := by
  unfold unscopedSems0
  rw [bigSep_eq_bigSepL_of_eq [semOf .bar] (by decide) (by decide)]
  rfl

omit [FloatOps F] in
theorem alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> bigSep Finset.univ fun k : Role =>
          iprop((∃ κ : ℕ, cellInv EX (sched m ρ) κ (cell c k)) ∗ kept c k) := by
  have one (k : Role) : iprop(semVal (cell c k) 0 ∗ roundState EX (sched m ρ) (cell c k) 0 ∗ kept c k)
      ⊢ (|={Set.univ}=> iprop((∃ κ : ℕ, cellInv EX (sched m ρ) κ (cell c k)) ∗ kept c k) : sProp 𝕄) := by
    iintro ⟨Hv, Hs, Hp⟩
    imod ((Rounds.body_intro EX (sched m ρ) (cell c k)).trans inv_alloc) $$ [Hv Hs] with Hi
    · isplitl [Hv] <;> iassumption
    imodintro
    isplitl [Hi]
    · iexact Hi
    iexact Hp
  refine BIBase.Entails.trans ?_ ((bigSep_mono fun k _ => one k).trans (bigSep_fupd _ _))
  rw [bigSep_sep', own_sems, free_sems, each_role (fun k => semVal (cell c k) 0)]
  unfold dealt
  iintro ⟨⟨HS, HR⟩, HB, Hd⟩
  isplitr [Hd]
  · isplitl [HB]; · iexact HB
    isplitl [HS] <;> iassumption
  iexact Hd

/-! ## The tokens change hands -/

/-- The facts all devices share: the invariants, and that each semaphore has reached its round 0. -/
def common (K : Dev nD × Role → ℕ) : sProp 𝕄 :=
  iprop((bigSep Finset.univ fun p : Dev nD × Role => cellInv EX (sched m ρ) (K p) (cell p.1 p.2))
    ∗ bigSep Finset.univ fun p : Dev nD × Role => reached EX (cell p.1 p.2) 0)

instance common_persistent (K : Dev nD × Role → ℕ) : BI.Persistent (common (F := F) m ρ K) := by
  unfold common; infer_instance

omit [FloatOps F] in
theorem common_inv (K : Dev nD × Role → ℕ) (c : Dev nD) (k : Role) :
    common m ρ K ⊢ cellInv EX (sched m ρ) (K (c, k)) (cell c k) := by
  unfold common
  iintro ⟨H, -⟩
  iapply (show (bigSep Finset.univ fun p : Dev nD × Role => cellInv EX (sched m ρ) (K p) (cell p.1 p.2))
    ⊢ (cellInv EX (sched m ρ) (K (c, k)) (cell c k) : sProp 𝕄) from bigSep_elim (Finset.mem_univ (c, k)))
  iexact H

omit [FloatOps F] in
theorem common_mark (K : Dev nD × Role → ℕ) (c : Dev nD) (k : Role) :
    common m ρ K ⊢ (reached EX (cell c k) 0 : sProp 𝕄) := by
  unfold common
  iintro ⟨-, H⟩
  iapply (show (bigSep Finset.univ fun p : Dev nD × Role => (reached EX (cell p.1 p.2) 0 : sProp 𝕄))
    ⊢ (reached EX (cell c k) 0 : sProp 𝕄) from bigSep_elim (Finset.mem_univ (c, k)))
  iexact H

omit [FloatOps F] in
/-- What a device's body needs of the shared facts. -/
theorem common_ghost (K : Dev nD × Role → ℕ) (c : Dev nD) :
    iprop(common m ρ K ∗ places c ∗ dues c) ⊢ (∃ K, ghost m ρ K c : sProp 𝕄) := by
  iintro ⟨#H, Hp, Hd⟩
  iexists K
  unfold ghost invs marks
  isplitr
  · isplitr; · iapply (common_inv m ρ K c .bar); iexact H
    isplitr; · iapply (common_inv m ρ K c .send); iexact H
    isplitr; · iapply (common_inv m ρ K c .recv); iexact H
    isplitr; · iapply (common_inv m ρ K (peer c) .bar); iexact H
    iapply (common_inv m ρ K (peer c) .recv); iexact H
  isplitr
  · isplitr; · iapply (common_mark m ρ K c .send); iexact H
    isplitr; · iapply (common_mark m ρ K c .recv); iexact H
    isplitr; · iapply (common_mark m ρ K (peer c) .bar); iexact H
    iapply (common_mark m ρ K (peer c) .recv); iexact H
  isplitl [Hp] <;> iassumption

omit [FloatOps F] in
/-- Each device gives its barrier's token and its receive semaphore's to its peer. -/
theorem swap : (bigSep Finset.univ fun c : Dev nD => bigSep Finset.univ fun k : Role => (dutyTok EX (cell c k) 0 () : sProp 𝕄))
    ⊢ bigSep Finset.univ fun c : Dev nD => dues c := by
  unfold dues
  simp only [each_role, bigSep_sep']
  rw [bigSep_univ_equiv pairing (fun c : Dev nD => (dutyTok EX (cell c .bar) 0 () : sProp 𝕄)),
    bigSep_univ_equiv pairing (fun c : Dev nD => (dutyTok EX (cell c .recv) 0 () : sProp 𝕄))]
  exact Entails.refl _

omit [FloatOps F] in
theorem hand_over :
    (bigSep Finset.univ fun c : Dev nD => bigSep Finset.univ fun k : Role =>
        iprop((∃ κ : ℕ, cellInv EX (sched m ρ) κ (cell c k)) ∗ kept c k) : sProp 𝕄)
      ⊢ bigSep Finset.univ fun c : Dev nD => iprop(∃ K, ghost m ρ K c) := by
  have shared {R : sProp 𝕄} [BI.Persistent R] {Φ Ψ : Dev nD → sProp 𝕄} (h : ∀ c, iprop(R ∗ Φ c) ⊢ Ψ c) :
      iprop(R ∗ bigSep Finset.univ Φ) ⊢ bigSep Finset.univ Ψ := by
    refine (sep_mono_left (BI.bigSep_of_persistent (Finset.univ : Finset (Dev nD)) R)).trans ?_
    rw [← bigSep_sep']
    exact bigSep_mono fun c _ => h c
  unfold kept
  simp only [bigSep_sep']
  rw [← bigSep_univ_prod (fun p : Dev nD × Role => iprop(∃ κ : ℕ, cellInv EX (sched m ρ) κ (cell p.1 p.2))),
    ← bigSep_univ_prod (fun p : Dev nD × Role => (reached EX (cell p.1 p.2) 0 : sProp 𝕄))]
  iintro ⟨HI, #HR, Hat, Htok⟩
  ihave HK := (BI.bigSep_exists_pi Finset.univ (fun (p : Dev nD × Role) (κ : ℕ) => (cellInv EX (sched m ρ) κ (cell p.1 p.2) : sProp 𝕄))) $$ HI
  icases HK with ⟨%K, #HI⟩
  ihave Hd := (swap (F := F)) $$ Htok
  iapply (shared (R := common m ρ K) (Φ := fun c => iprop(places c ∗ dues c)) fun c => common_ghost m ρ K c)
  isplitr
  · unfold common
    isplitl; · iexact HI
    iexact HR
  rw [bigSep_sep']
  isplitl [Hat]
  · unfold places
    simp only [each_role]
    iexact Hat
  iexact Hd

omit [FloatOps F] in
theorem set_up :
    (bigSep Finset.univ fun c : Dev nD => iprop(Pipeline.ownSems0 (Ix := Unit) (Name := ℕ) (U := UU) (Lvl := ℕ) (Val := Elt F) (τ := τ) osem c
        ∗ unscopedSems0 c ∗ dealt m ρ c) : sProp 𝕄)
      ⊢ |={Set.univ}=> bigSep Finset.univ fun c : Dev nD => iprop(∃ K, ghost m ρ K c) :=
  ((bigSep_mono fun c _ => alloc m ρ c).trans (bigSep_fupd _ _)).trans (BI.fupd_mono (hand_over m ρ))

/-! ## The credit to wait -/

/-- Only its peer owes a device's semaphore of a role. -/
theorem only_peer (d c : Dev nD) (k : Role) (n : ℕ) :
    (tallyAt (cell (peer d) k) () n : CellTallies nD τ sig Unit) (cell c k) () = if d = peer c then n else 0 := by
  rw [tallyAt_apply]
  by_cases h : d = peer c
  · subst h
    rw [peer_peer, if_pos ⟨rfl, rfl⟩, if_pos rfl]
  · rw [if_neg h, if_neg]
    rintro ⟨e, -⟩
    exact h (by rw [(cell_inj e).1, peer_peer])

theorem not_owed {d c : Dev nD} {k l : Role} (h : l ≠ k) (n : ℕ) :
    (tallyAt (cell d k) () n : CellTallies nD τ sig Unit) (cell c l) () = 0 := by
  rw [tallyAt_apply, if_neg]
  rintro ⟨e, -⟩
  exact h (cell_inj e).2

theorem owed_bar (d c : Dev nD) : owed₀ d (cell c .bar) () = if d = peer c then 1 else 0 := by
  unfold owed₀ owed₁
  rw [Pi.add_apply, Finsupp.add_apply, not_owed (by decide), only_peer, Nat.zero_add]

theorem owed_recv (d c : Dev nD) : owed₀ d (cell c .recv) () = if d = peer c then N else 0 := by
  unfold owed₀ owed₁
  rw [Pi.add_apply, Finsupp.add_apply, not_owed (k := .bar) (by decide), only_peer, Nat.add_zero]

/-- So the launch's credit at it is what the peer owes. -/
theorem credit_of (c : Dev nD) (k : Role) (n : ℕ) (h : ∀ d, owed₀ d (cell c k) () = if d = peer c then n else 0) :
    tallyOn (cell c k) (launchCredit (Pipeline.owing owed₀) 0 (cell c k)) = (tallyAt (cell c k) () n : CellTallies nD τ sig Unit) := by
  unfold tallyAt
  refine congrArg _ (Finsupp.ext fun u => ?_)
  cases u
  rw [Pipeline.launchCredit_owing, Finsupp.single_eq_same, Finset.sum_congr rfl fun d _ => h d,
    Finset.sum_ite_eq' Finset.univ (peer c) fun _ => n, if_pos (Finset.mem_univ _)]

omit [FloatOps F] in
theorem credits (c : Dev nD) :
    (Pipeline.launchCred owed₀ c : sProp 𝕄) ⊢ iprop(cred (tallyAt (cell c .bar) () 1) ∗ cred (tallyAt (cell c .recv) () N)) := by
  unfold Pipeline.launchCred
  rw [bigSep_univ_at _ (semOf .bar), credit_of c .bar 1 fun d => owed_bar d c]
  refine sep_mono_right ?_
  rw [← credit_of c .recv N fun d => owed_recv d c]
  exact bigSep_elim (Finset.mem_erase.mpr ⟨semOf_ne (by decide), Finset.mem_univ _⟩)

/-! ## The run -/

omit [FloatOps F] in
theorem to_start (c : Dev nD) :
    iprop(Pipeline.unscopedRestP Pipeline.Prefetch.none cfg0.spec c (fun b => m ((c : Thread nD τ).loc b)) ∗ levAts L lv
        ∗ Pipeline.launchCred owed₀ c ∗ prngReg c (ρ c) ∗ ∃ K, ghost m ρ K c)
      ⊢ |={Set.univ}=> iprop(start m ρ c ∗ emp) := by
  iintro ⟨-, Hl, Hc, -, Hg⟩
  ihave Hc := (credits (F := F) c) $$ Hc
  icases Hc with ⟨HB, HR⟩
  imodintro
  unfold start
  isplitl
  · isplitl [Hg]; · iexact Hg
    isplitl [HB]; · iexact HB
    isplitl [HR] <;> iassumption
  iempintro

theorem to_body (c : Dev nD) :
    iprop(start m ρ c ∗ Pipeline.prefHeld Pipeline.Prefetch.none c (fun _ => fullShare.right) (fun k => k.elim0)
        ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hb⟩
  isplitl [Hs] <;> iassumption

theorem from_body (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, own_sems, free_sems]
  unfold Φ₁ bufPts
  iintro ⟨Hb, HB, HS, HR⟩
  isplitl [HB]; · iexact HB
  isplitl [HS HR]
  · isplitl [HS] <;> iassumption
  iexists _
  iexact Hb

theorem stage_waits (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, _⟩
      · exact .inl rfl
      · exact .inr rfl)

theorem whole_share (c : Dev nD) (w : Fin cfg0.W) : (dats m ρ 0 c).share w = fullShare := by
  unfold Dat.share
  split <;> rfl

/-- What a window's array holds after the run. -/
def final (c : Dev nD) (w : Fin cfg0.W) : Buf (Elt F) ((cfg0.win w).arr.view.loc (c : Thread nD τ)) :=
  (dats m ρ 0 c).arrAt w cfg0.N

set_option maxRecDepth 8000 in
/-- From any memory with all counters at zero, every weakly fair execution of the 32 devices terminates, with every
    device's two arrays at `final` and all counters at zero. -/
theorem run_main : θ_run defs (onTc (τ := τ) (main (F := F))) (s₀ m ρ) (fun r =>
    (∀ (c : Dev nD) (w : Fin cfg0.W), r.2.mem ((cfg0.win w).arr.view.loc (c : Thread nD τ)) = final m ρ c w)
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_ok m ρ) (hne := block_pos0) (harr := arr_whole0) (hstage := stage_whole0) (hshare := whole_share m ρ)
    (hdistinct := winFacts0.arr_inj)
    (O₀ := owed₀) (howed₀ := fun _ => rfl) (howedN := fun _ => rfl)
    (L := L) (lv := lv) (hL := L_off) (hwaits := stage_waits m ρ)
    (G := dealt m ρ) (G' := fun c : Dev nD => iprop(∃ K, ghost m ρ K c)) (u₀ := u₀)
    (hu₀ := by
      unfold u₀
      iintro Hu
      ihave H := (ownU_pair _ _) $$ Hu
      icases H with ⟨HP, HX⟩
      imod (deal m ρ) $$ HX with HG
      imodintro
      isplitl [HP] <;> iassumption)
    (hglob := set_up m ρ)
    (hA := fun _ _ => rfl) (hpf := fun _ k => k.elim0)
    (X := start m ρ) (Y := fun c => unscopedSems0 c) (Z := fun _ => iprop(emp))
    (hX := to_start m ρ) (hin := to_body m ρ) (hout := from_body m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Pair

end
-- ==== Proof.KernelIdeal.Value.lean ====
/-
# What the run leaves in the arrays

The input array is as it was; the result array is the pair's two blocks one above the other.
-/
module

public import proofs.«01_k».proof.Proof.KernelIdeal.Launch

@[expose] public section

noncomputable section

namespace Cert.KernelIdeal.Pair

open Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The input's one block is the whole of its array, -/
theorem blockOf_eq (c : Dev nD) : blockOf m ρ c = m ((c : Thread nD τ).loc main_arg0) :=
  Memref.read_access_unit_zero (Elt F) main_arg0 (off := fun a => win0_0.index (0 : Fin 1) a * main_arg0.ty.shape.size a)
    (funext fun a => by fin_cases a <;> rfl) (fun a => by fin_cases a <;> decide) _

/-- which nothing writes; -/
theorem final_arg (c : Dev nD) : final m ρ c (0 : Fin 2) = m ((c : Thread nD τ).loc main_arg0) :=
  (dats m ρ 0 c).arrAt_in (0 : Fin 2) rfl _

/-- the result's one block is the whole of its array too, and is written back at the grid's one point. -/
theorem final_res (c : Dev nD) : final m ρ c (1 : Fin 2) = whole m ρ c := by
  have h : (win0_1.blk (0 : Fin 1)).view.read (Elt F) (final m ρ c (1 : Fin 2)) = whole m ρ c := by
    unfold final
    rw [show cfg0.N = (t0_0 : Fin cfg0.N).val + 1 from rfl, (dats m ρ 0 c).arrAt_succ (1 : Fin 2) t0_0, if_pos (flush0_1 t0_0)]
    exact View.read_write_univ _ _
  refine Eq.trans (Eq.symm ?_) h
  exact Memref.read_access_unit_zero (Elt F) main_v1 (off := fun a => win0_1.index (0 : Fin 1) a * main_v1.ty.shape.size a)
    (funext fun a => by fin_cases a <;> rfl) (fun a => by fin_cases a <;> decide) _

/-- The run, in terms of the arrays' contents at launch. -/
theorem run_values : θ_run defs (onTc (τ := τ) (main (F := F))) ⟨m, fun _ => 0, ρ⟩ (fun r =>
    (∀ c : Dev nD, r.2.mem ((c.tc : Thread nD τ).loc main_v1) = gath (fun d => m ((d : Thread nD τ).loc main_arg0)) c
        ∧ r.2.mem ((c.tc : Thread nD τ).loc main_arg0) = m ((c.tc : Thread nD τ).loc main_arg0))
      ∧ r.2.sem = fun _ => 0) := by
  refine (θ_run defs _ _).mono (fun r h => ⟨fun c => ⟨?_, ?_⟩, h.2⟩) (run_main m ρ)
  · refine (h.1 c (1 : Fin 2)).trans ((final_res m ρ c).trans ?_)
    exact congrArg (fun x => gath x c) (funext fun d => blockOf_eq m ρ d)
  · exact (h.1 c (0 : Fin 2)).trans (final_arg m ρ c)

end Cert.KernelIdeal.Pair

end
-- ==== Proof.Identity.lean ====
/-
# The reference's run

The reference returns its argument, so its program has no operation: it ends at once, in the memory it started from.
-/
module

public import proofs.«01_k».proof.Proof.Gen.ReferenceIdeal
public import Idealize.ShloMosaic.Lib.StableHlo.Run
public import Idealize.ShloMosaic.Lib.Quiescent

@[expose] public section

noncomputable section

namespace Cert.ReferenceIdeal.Identity

open Idealize.ShloMosaic Idealize.ShloMosaic.TcCoe Idealize.ShloMosaic.StableHlo Idealize.SL.Sem

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => h c main_arg0, sem_eq_zero_of_no_sems (by decide) r.2⟩)
    (run_seq (by decide) (by decide) defs main (fun _ => []) (fun _ => rfl) (fun _ => trivial) m ρ)

end Cert.ReferenceIdeal.Identity

end
-- ==== Proof.lean ====
/-
# The five claims

Each of the kernel's two readings has its run in its own `Value` module; the reference's is in `Identity`. What is left
is to read the claims off them, and, for the value claim, that the devices' blocks are the halves of the whole array: so
the two blocks a pair gathers are the whole array, which is what the reference returns.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Kernel.Value
public import proofs.«01_k».proof.Proof.KernelIdeal.Value
public import proofs.«01_k».proof.Proof.Identity
public import Idealize.ShloMosaic.Lib.Layout
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := by
  intro m g _
  exact (θ_run Cert.Kernel.defs _ _).mono (fun r h => ⟨fun c => (h.1 c).2, h.2⟩) (Cert.Kernel.Pair.run_values (F := Bits) m g)

theorem frame_ideal : Cert.quiescent_KernelIdeal (hKernelIdeal := Cert.KernelIdeal.Gen.facts) := by
  intro m g _
  exact (θ_run Cert.KernelIdeal.defs _ _).mono (fun r h => ⟨fun c => (h.1 c).2, h.2⟩) (Cert.KernelIdeal.Pair.run_values (F := Ideal) m g)

theorem frame_reference : Cert.quiescent_ReferenceIdeal (hReferenceIdeal := Cert.ReferenceIdeal.Gen.facts) := by
  intro m g _
  exact Cert.ReferenceIdeal.Identity.run_main (F := Ideal) m g

open Cert.KernelIdeal Cert.KernelIdeal.Pair in
/-- Device `d`'s part of an array cut in two along the mesh's first axis is the array on the device's own rows. -/
theorem block_own {α : Type} (X : S512x256.Idx → α) (d : Dev Cert.KernelIdeal.nD) (j : S256x256.Idx) :
    (Layout.blockN ⟨2, ![256, 256]⟩ ⟨2, ![512, 256]⟩ (Layout.meshBlock [2, 4, 4] ![[0], []] d) X) j = X ((own d).emb j) := by
  rw [Layout.blockN_apply]
  refine congrArg X (funext fun a => ?_)
  have hd : d.val < 32 := d.isLt
  match a with
  | ⟨0, _⟩ =>
    apply Fin.ext
    refine Eq.trans ?_ (own_emb_row d j).symm
    show (d.val / 16 % 2 * 1 + 0) * 256 + (j 0).val = _
    omega
  | ⟨1, _⟩ =>
    apply Fin.ext
    refine Eq.trans ?_ (own_emb_col d j).symm
    show 0 * 256 + (j 1).val = _
    omega

theorem value : Cert.algebraic_KernelIdeal_ReferenceIdeal (hKernelIdeal := Cert.KernelIdeal.Gen.facts)
    (hReferenceIdeal := Cert.ReferenceIdeal.Gen.facts) := by
  intro m g m' g' _ hin
  refine ⟨m' (((0 : Dev Cert.ReferenceIdeal.nD).tc : Thread Cert.ReferenceIdeal.nD Cert.ReferenceIdeal.τ).loc
    Cert.ReferenceIdeal.main_arg0), ?_, ?_⟩
  · refine (θ_run Cert.KernelIdeal.defs _ _).mono (fun r h c => ⟨(h.1 c).1.trans ?_, (h.1 c).2⟩)
      (Cert.KernelIdeal.Pair.run_values (F := Ideal) m g)
    exact Cert.KernelIdeal.Pair.gath_blocks _ _ (fun d j => (congrFun (hin d) j).trans (block_own _ d j)) c
  · exact (θ_run Cert.ReferenceIdeal.defs _ _).mono (fun r h => ⟨h.1 0, h.1 0⟩)
      (Cert.ReferenceIdeal.Identity.run_main (F := Ideal) m' g')

theorem claim : Cert.Claim := ⟨Cert.Kernel.Gen.facts, Cert.KernelIdeal.Gen.facts, Cert.ReferenceIdeal.Gen.facts,
  frame_kernel, frame_ideal, frame_reference, trivial, value⟩

end Cert.Proof

end
